-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x4096 : Shape := ⟨3, ![8, 4096, 4096]⟩
abbrev S32 : Shape := ⟨1, ![32]⟩
abbrev S8x4096x512 : Shape := ⟨3, ![8, 4096, 512]⟩
abbrev S4 : Shape := ⟨1, ![4]⟩
abbrev S1x256x128 : Shape := ⟨3, ![1, 256, 128]⟩
abbrev S1x4096x128 : Shape := ⟨3, ![1, 4096, 128]⟩
abbrev S1 : Shape := ⟨1, ![1]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 3
  | _ => 0

abbrev bufTy : (tb : Table) → Fin (tcTables nBuf tb) → BufTy
  | .hbm, ⟨0, _⟩ => ⟨S8x4096x4096, .fp8e4m3⟩
  | .hbm, ⟨1, _⟩ => ⟨S32, .f32⟩
  | .hbm, ⟨2, _⟩ => ⟨S8x4096x512, .fp8e4m3⟩
  | .hbm, ⟨3, _⟩ => ⟨S4, .f32⟩
  | .hbm, ⟨4, _⟩ => ⟨S8x4096x512, .fp8e4m3⟩
  | .hbm, ⟨5, _⟩ => ⟨S4, .f32⟩
  | .hbm, ⟨6, _⟩ => ⟨S8x4096x4096, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x256x128, .bf16⟩
  | .local _ .vmem, ⟨7, _⟩ => ⟨S1x256x128, .bf16⟩
  | .local _ .smem, ⟨0, _⟩ => ⟨S32, .f32⟩
  | .local _ .smem, ⟨1, _⟩ => ⟨S4, .f32⟩
  | .local _ .smem, ⟨2, _⟩ => ⟨S4, .f32⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨4, ![8, 4, 8, 16], ![false, false, false, false]⟩

def k0_off1 (i : grid0.Coords) : Fin 1 → Nat :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let v2 : Index := Scalar.indexCast v1
  ![v2.toNat]
def k0_off2 (i : grid0.Coords) : Fin 1 → Nat :=
  let arg1 : BitVec 32 := BitVec.ofNat 32 (i 1).val
  let v4 : Index := Scalar.indexCast arg1
  ![v4.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, arg3.toNat, v1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x4096x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== ReferenceIdeal.lean ====
abbrev S8x4096x4096 : Shape := ⟨3, ![8, 4096, 4096]⟩
abbrev S32 : Shape := ⟨1, ![32]⟩
abbrev S8x4096x512 : Shape := ⟨3, ![8, 4096, 512]⟩
abbrev S4 : Shape := ⟨1, ![4]⟩
abbrev S8x4096x4x8x128 : Shape := ⟨5, ![8, 4096, 4, 8, 128]⟩
abbrev S8x4096x4x128 : Shape := ⟨4, ![8, 4096, 4, 128]⟩
abbrev S4x8 : Shape := ⟨2, ![4, 8]⟩
abbrev S4x1 : Shape := ⟨2, ![4, 1]⟩
abbrev S1x4x8x1x1 : Shape := ⟨5, ![1, 4, 8, 1, 1]⟩
abbrev S1x1x4x1x1 : Shape := ⟨5, ![1, 1, 4, 1, 1]⟩
abbrev S8x4x4096x4096x8 : Shape := ⟨5, ![8, 4, 4096, 4096, 8]⟩
abbrev S8x4x8x4096x4096 : Shape := ⟨5, ![8, 4, 8, 4096, 4096]⟩
abbrev S8x4x8x4096 : Shape := ⟨4, ![8, 4, 8, 4096]⟩
abbrev S8x4x8x4096x1 : Shape := ⟨5, ![8, 4, 8, 4096, 1]⟩
abbrev S8x4x128x8x4096 : Shape := ⟨5, ![8, 4, 128, 8, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x4096, .fp8e4m3⟩
  | .hbm, ⟨1, _⟩ => ⟨S32, .f32⟩
  | .hbm, ⟨2, _⟩ => ⟨S8x4096x512, .fp8e4m3⟩
  | .hbm, ⟨3, _⟩ => ⟨S4, .f32⟩
  | .hbm, ⟨4, _⟩ => ⟨S8x4096x512, .fp8e4m3⟩
  | .hbm, ⟨5, _⟩ => ⟨S4, .f32⟩
  | .hbm, ⟨6, _⟩ => ⟨S8x4096x4096, .bf16⟩
  | .local _ .vmem, ⟨0, _⟩ => ⟨S8x4096x4096, .fp8e4m3⟩
  | .local _ .vmem, ⟨1, _⟩ => ⟨S32, .f32⟩
  | .local _ .vmem, ⟨2, _⟩ => ⟨S8x4096x512, .fp8e4m3⟩
  | .local _ .vmem, ⟨3, _⟩ => ⟨S4, .f32⟩
  | .local _ .vmem, ⟨4, _⟩ => ⟨S8x4096x512, .fp8e4m3⟩
  | .local _ .vmem, ⟨5, _⟩ => ⟨S4, .f32⟩
  | .local _ .vmem, ⟨6, _⟩ => ⟨S8x4096x4096, .bf16⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.SoftmaxRow.lean ====
/-
  One row of attention weights on the extended reals, in two spellings.

  A row of scores `t` has the largest score `M`, the exponentials `e j = exp (t j - M)` and their sum `L`.

  * `code` is the kernel's spelling: `e j` times the quotient `256 / L`, clipped to the range of the 8-bit format.
  * `codeGuarded` is the reference's: the softmax `e j / L` where the largest score is finite and zero elsewhere, times 256,
    clipped to the same range.

  `codeGuarded_eq` says they are the same number at every row. Where `M` is finite it is attained, so some `e j` is one, no `e j`
  is negative, `L` is not zero, and both are `e j * 256 * L⁻¹`. Where `M` is infinite every `t j - M` is `-∞`, so every `e j` is
  zero, and both products are zero whatever the quotient by `L = 0` is.
-/
module

public import Idealize.ShloMosaic.PureOps.Ideal
public import Idealize.ShloMosaic.Lib.Pointwise

@[expose] public section

noncomputable section

namespace Cert.SoftmaxRow

open Idealize.ShloMosaic

/-- The largest score of a row, as both programs compute it: a maximum started at the word of `-∞`. -/
def top {n : Nat} (t : Fin n → EReal) : EReal :=
  Finset.univ.fold max (Ideal.ofBits .f32 0xFF800000#32) t

/-- Clipping to the range of the 8-bit format: at least the word of `-448`, at most the word of `448`. -/
def clip (x : EReal) : EReal :=
  min (Ideal.ofBits .f32 0x43E00000#32) (max (Ideal.ofBits .f32 0xC3E00000#32) x)

/-- The kernel's weight `j` of the row `t`: the exponential times `256 / L`, clipped. -/
def code {n : Nat} (t : Fin n → EReal) (j : Fin n) : EReal :=
  clip (Ideal.exp (t j - top t) * Ideal.div (Ideal.ofBits .f32 0x43800000#32) (∑ k, Ideal.exp (t k - top t)))

/-- The reference's softmax entry `j` of the row `t`: the exponential over the sum, zero where the largest score is infinite. -/
def weight {n : Nat} (t : Fin n → EReal) (j : Fin n) : EReal :=
  Scalar.select (IntOp.xori (FloatOps.weird (F := Ideal) (top t)) 1#1)
    (Ideal.div (Ideal.exp (t j - max (Ideal.ofBits .f32 0xFF800000#32) (top t)))
      (∑ k, Ideal.exp (t k - max (Ideal.ofBits .f32 0xFF800000#32) (top t))))
    0

/-- The reference's weight `j` of the row `t`: the guarded softmax entry times 256, clipped. -/
def codeGuarded {n : Nat} (t : Fin n → EReal) (j : Fin n) : EReal :=
  clip (weight t j * Ideal.ofBits .f32 0x43800000#32)

/-- The word `0xFF800000` is `-∞`. -/
theorem ofBits_negInf : Ideal.ofBits .f32 0xFF800000#32 = ⊥ := by
  simp [Ideal.ofBits, Ideal.ieee]

/-- The largest score is the supremum of the row. -/
theorem top_eq_sup {n : Nat} (t : Fin n → EReal) : top t = Finset.univ.sup t := by
  unfold top
  rw [ofBits_negInf]
  rfl

/-- No score is above the largest. -/
theorem le_top {n : Nat} (t : Fin n → EReal) (j : Fin n) : t j ≤ top t := by
  rw [top_eq_sup]
  exact Finset.le_sup (Finset.mem_univ j)

/-- A largest score above `-∞` is one of the scores. -/
theorem top_attained {n : Nat} (t : Fin n → EReal) (h : top t ≠ ⊥) : ∃ j, t j = top t := by
  by_contra hne
  push Not at hne
  have hlt : top t < top t := by
    conv_lhs => rw [top_eq_sup]
    rw [Finset.sup_lt_iff (bot_lt_iff_ne_bot.mpr h)]
    exact fun j _ => lt_of_le_of_ne (le_top t j) (hne j)
  exact lt_irrefl _ hlt

/-- The exponential is never negative. -/
theorem exp_nonneg (x : EReal) : 0 ≤ Ideal.exp x := by
  induction x using EReal.rec with
  | bot => simp
  | top => simp
  | coe r => rw [Ideal.exp_coe]; exact_mod_cast (Real.exp_pos r).le

/-- Where the largest score is finite the exponentials do not add up to zero: the largest score's own is one. -/
theorem sum_ne_zero {n : Nat} (t : Fin n → EReal) (h1 : top t ≠ ⊤) (h2 : top t ≠ ⊥) :
    (∑ k, Ideal.exp (t k - top t)) ≠ 0 := by
  obtain ⟨j, hj⟩ := top_attained t h2
  have hone : Ideal.exp (t j - top t) = 1 := by
    rw [hj, EReal.sub_self h1 h2, ← EReal.coe_zero, Ideal.exp_coe, Real.exp_zero, EReal.coe_one]
  have hle : (1 : EReal) ≤ ∑ k, Ideal.exp (t k - top t) := by
    rw [← hone]
    exact Finset.single_le_sum (f := fun k => Ideal.exp (t k - top t)) (fun k _ => exp_nonneg _) (Finset.mem_univ j)
  exact (lt_of_lt_of_le zero_lt_one hle).ne'

/-- Where the largest score is infinite every exponential is zero. -/
theorem exp_eq_zero {n : Nat} (t : Fin n → EReal) (h : top t = ⊤ ∨ top t = ⊥) (j : Fin n) :
    Ideal.exp (t j - top t) = 0 := by
  rcases h with h | h
  · rw [h, EReal.sub_top, Ideal.exp_bot]
  · have hj : t j = ⊥ := le_bot_iff.mp (h ▸ le_top t j)
    rw [hj, EReal.bot_sub, Ideal.exp_bot]

/-- The guard's word: the finiteness test selects the softmax exactly where the largest score is finite. -/
theorem select_finite (x a b : EReal) :
    Scalar.select (IntOp.xori (FloatOps.weird (F := Ideal) x) 1#1) a b = if x = ⊤ ∨ x = ⊥ then b else a := by
  show Scalar.select (IntOp.xori (BitVec.ofBool (decide (x = ⊤ ∨ x = ⊥))) 1#1) a b = _
  by_cases h : x = ⊤ ∨ x = ⊥
  · simp [h, Scalar.select, IntOp.xori]
  · simp [h, Scalar.select, IntOp.xori]

/-- The reference's weight is the kernel's, at every row of scores. -/
theorem codeGuarded_eq {n : Nat} (t : Fin n → EReal) (j : Fin n) : codeGuarded t j = code t j := by
  unfold codeGuarded code weight
  rw [select_finite, ofBits_negInf, max_eq_right (bot_le : (⊥ : EReal) ≤ top t)]
  by_cases h : top t = ⊤ ∨ top t = ⊥
  · rw [if_pos h, exp_eq_zero t h, zero_mul, zero_mul]
  · have h' := h
    push Not at h'
    have hL := sum_ne_zero t h'.1 h'.2
    rw [if_neg h]
    unfold Ideal.div
    rw [if_neg hL, if_neg hL, mul_assoc, mul_comm (∑ k, Ideal.exp (t k - top t))⁻¹]

end Cert.SoftmaxRow

end
-- ==== Proof.KernelBlock.lean ====
/-
  What the kernel's body stores at one grid point, read at one index of the block.

  The point has a 256-row block of queries, the 4096 keys and values of the block's key/value head, and the three scales its
  scalar loads read. `payload_apply` reads the stored block at row `r` and lane `d`: the row's weights (`SoftmaxRow.code` of its
  scores) against column `d` of the values, times the output scale.
-/
module

public import proofs.«01_k».proof.Proof.Gen.KernelIdeal.Value
public import proofs.«01_k».proof.Proof.SoftmaxRow
public import Idealize.ShloMosaic.Lib.Pointwise

@[expose] public section

set_option maxRecDepth 16384

noncomputable section

namespace Cert.KernelIdeal.Block

open Cert.KernelIdeal Cert.KernelIdeal.Gen Idealize.ShloMosaic Idealize.SL.Sem

/-- The stored block at row `r`, lane `d`: `(∑ j, code (scores of row r) j * v j d) * (v_scale / 256)`, where score `s` of row `r`
    is `(∑ e, q r e * k s e) * (q_scale * k_scale * softmax_scale)`. -/
theorem payload_apply (qs ks vs : Ideal .f32) (q : Vec Ideal S1x256x128 .fp8e4m3) (k v : Vec Ideal S1x4096x128 .fp8e4m3)
    (r : Fin 256) (d : Fin 128) :
    k0_pay1 (F := Ideal) (k0_pay2 (F := Ideal) vs) (k0_pay3 (F := Ideal) qs ks q k v) (ix3 0 r d)
      = (∑ j : Fin 4096, SoftmaxRow.code
            (fun s : Fin 4096 => (∑ e : Fin 128, (q (ix3 0 r e) * k (ix3 0 s e) : EReal))
              * (qs * ks * Ideal.ofBits .f32 0x3DB504F3#32)) j * v (ix3 0 j d))
          * (vs * Ideal.ofBits .f32 0x3B800000#32) := by
  pointwise [k0_pay1, k0_pay2, k0_pay3]
  rfl

end Cert.KernelIdeal.Block

end
-- ==== Proof.KernelPoints.lean ====
/-
  Where the kernel's blocks sit. The grid has 8 batches by 4 key/value heads by 8 query heads of the head's group by 16 blocks of
  256 query rows, and point `t` is batch `t / 512`, key/value head `t / 128 % 4`, query head `t / 16 % 8`, row block `t % 16`.
-/
module

public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic

/-- The block index of every window at every point: the scales whole, the queries and the result at (batch, row block, head),
    the keys and the values at (batch, all rows, key/value head). -/
theorem idx : ∀ t : Fin cfg0.N,
    win0_0.index t = ![0] ∧ win0_1.index t = ![0] ∧ win0_2.index t = ![0]
    ∧ win0_3.index t = ![t.val / 512, t.val % 16, t.val / 128 % 4 * 8 + t.val / 16 % 8]
    ∧ win0_4.index t = ![t.val / 512, 0, t.val / 128 % 4]
    ∧ win0_5.index t = ![t.val / 512, 0, t.val / 128 % 4]
    ∧ win0_6.index t = ![t.val / 512, t.val % 16, t.val / 128 % 4 * 8 + t.val / 16 % 8] :=
  (by decide +kernel : ∀ t : Fin grid0.N, _)

/-- The scalar load of a query scale reads at the query head. -/
theorem off1 : ∀ t : Fin grid0.N, k0_off1 (grid0.coords t) = ![t.val / 128 % 4 * 8 + t.val / 16 % 8] := by decide +kernel

/-- The scalar loads of the key scale and of the value scale read at the key/value head. -/
theorem off2 : ∀ t : Fin grid0.N, k0_off2 (grid0.coords t) = ![t.val / 128 % 4] := by decide +kernel

/-- The result's blocks tile its array. -/
theorem covers : (cfg0.win 6).Covers := by decide +kernel

end Cert.KernelIdeal.Block

end
-- ==== Proof.RefScores.lean ====
/-
  The reference's scores and its weights, each read at one index.

  The reference computes one five-axis tensor of scores (batch, key/value head, query head of the group, query row, key row) and a
  guarded softmax of it along the key rows. `scores` and `weights` are those two halves of its computation, `pay4_eq` puts them
  together, and `scores_apply` and `weights_apply` read each at an index.
-/
module

public import proofs.«01_k».proof.Proof.Gen.ReferenceIdeal.Value
public import proofs.«01_k».proof.Proof.SoftmaxRow
public import Idealize.ShloMosaic.Lib.Pointwise

@[expose] public section

set_option maxRecDepth 16384

noncomputable section

namespace Cert.ReferenceIdeal.Block

open Cert.ReferenceIdeal Cert.ReferenceIdeal.Gen Idealize.ShloMosaic Idealize.SL.Sem

variable {F : FTy → Type} [FloatOps F]

/-- The scaled scores of the queries `v0` against the keys `v2`, with the query scales `v6` and the key scales `v8`. -/
def scores (v0 : Vec F S8x4096x4096 .fp8e4m3) (v2 : Vec F S8x4096x512 .fp8e4m3) (v6 : Vec F S32 .f32) (v8 : Vec F S4 .f32) :
    FVec F S8x4x8x4096x4096 .f32 :=
  have v1 : FVec F S8x4096x4x8x128 .fp8e4m3 := shapeCast S8x4096x4x8x128 v0 shapeCasts_S8x4096x4096_S8x4096x4x8x128
  have v3 : FVec F S8x4096x4x128 .fp8e4m3 := shapeCast S8x4096x4x128 v2 shapeCasts_S8x4096x512_S8x4096x4x128
  have v7 : FVec F S4x8 .f32 := shapeCast S4x8 v6 shapeCasts_S32_S4x8
  have v9 : FVec F S4x1 .f32 := shapeCast S4x1 v8 shapeCasts_S4_S4x1
  have v10 : FVec F S4x8 .f32 := broadcastTo S4x8 v9 broadcasts_S4x1_S4x8
  have v11 : FVec F S4x8 .f32 := mulf v7 v10
  have cst : F .f32 := Scalar.ofBits .f32 0x3DB504F3#32
  have v12 : FVec F S4x8 .f32 := broadcast S4x8 cst
  have v13 : FVec F S4x8 .f32 := mulf v11 v12
  have v14 : FVec F S1x4x8x1x1 .f32 := shapeCast S1x4x8x1x1 v13 shapeCasts_S4x8_S1x4x8x1x1
  have cst_11 : FVec F S8x4x4096x4096x8 .f32 := constant S8x4x4096x4096x8 .f32 0x00000000#32
  have v17 : FVec F S8x4x4096x4096x8 .f32 := matmul dot_S8x4096x4x128_S8x4096x4x8x128_S8x4x4096x4096x8_3_4_1_13_02_02 none v3 v1 cst_11
  have v18 : FVec F S8x4x8x4096x4096 .f32 := transpose S8x4x8x4096x4096 [0, 1, 4, 3, 2] v17 transposes_S8x4x4096x4096x8_p0_1_4_3_2_S8x4x8x4096x4096
  have v19 : FVec F S8x4x8x4096x4096 .f32 := broadcastTo S8x4x8x4096x4096 v14 broadcasts_S1x4x8x1x1_S8x4x8x4096x4096
  have v20 : FVec F S8x4x8x4096x4096 .f32 := mulf v18 v19
  v20

/-- The largest score of every query row. -/
def rowMax (v : FVec F S8x4x8x4096x4096 .f32) : FVec F S8x4x8x4096 .f32 :=
  multiReduction .maximumf [4] S8x4x8x4096 v 0xFF800000#32 reduces_S8x4x8x4096x4096_S8x4x8x4096 (.inl rfl) rfl

/-- The sum along the key rows of every query row. -/
def rowSum (v : FVec F S8x4x8x4096x4096 .f32) : FVec F S8x4x8x4096 .f32 :=
  multiReduction .add [4] S8x4x8x4096 v 0x00000000#32 reduces_S8x4x8x4096x4096_S8x4x8x4096 (.inl rfl) rfl

/-- The exponentials of the scores `v` less the row values `M`, each taken no lower than the word of `-∞`. -/
def exps (v : FVec F S8x4x8x4096x4096 .f32) (M : FVec F S8x4x8x4096 .f32) : FVec F S8x4x8x4096x4096 .f32 :=
  exp (subf v (broadcastTo S8x4x8x4096x4096
    (shapeCast S8x4x8x4096x1 (maximumf (broadcast S8x4x8x4096 (Scalar.ofBits .f32 0xFF800000#32)) M)
      shapeCasts_S8x4x8x4096_S8x4x8x4096x1)
    broadcasts_S8x4x8x4096x1_S8x4x8x4096x4096))

/-- The quotients of `e` by the row values `L` where the row value `M` is finite, zero elsewhere. -/
def guarded (M L : FVec F S8x4x8x4096 .f32) (e : FVec F S8x4x8x4096x4096 .f32) : FVec F S8x4x8x4096x4096 .f32 :=
  select
    (broadcastTo S8x4x8x4096x4096
      (shapeCast S8x4x8x4096x1
        (xori (weird (shapeCast S8x4x8x4096x1 M shapeCasts_S8x4x8x4096_S8x4x8x4096x1)) (constantI S8x4x8x4096x1 1 1#1))
        shapeCasts_S8x4x8x4096x1_S8x4x8x4096x1)
      broadcasts_S8x4x8x4096x1_S8x4x8x4096x4096)
    (divf e (broadcastTo S8x4x8x4096x4096 (shapeCast S8x4x8x4096x1 L shapeCasts_S8x4x8x4096_S8x4x8x4096x1)
      broadcasts_S8x4x8x4096x1_S8x4x8x4096x4096))
    (broadcast S8x4x8x4096x4096 (Scalar.ofBits .f32 0x00000000#32))

/-- The guarded softmax of the scores `v` along the key rows. -/
def weights (v : FVec F S8x4x8x4096x4096 .f32) : FVec F S8x4x8x4096x4096 .f32 :=
  guarded (rowMax v) (rowSum (exps v (rowMax v))) (exps v (rowMax v))

/-- The reference's weights are the guarded softmax of its scores. -/
theorem pay4_eq (v0 : Vec F S8x4096x4096 .fp8e4m3) (v2 : Vec F S8x4096x512 .fp8e4m3) (v6 : Vec F S32 .f32) (v8 : Vec F S4 .f32) :
    k0_pay4 v0 v2 v6 v8 = weights (scores v0 v2 v6 v8) := rfl

/-- The score of query row `r` against key row `s`, in batch `b`, at query head `g` of key/value head `h`. -/
theorem scores_apply (v0 : Vec Ideal S8x4096x4096 .fp8e4m3) (v2 : Vec Ideal S8x4096x512 .fp8e4m3) (v6 : Vec Ideal S32 .f32)
    (v8 : Vec Ideal S4 .f32) (b : Fin 8) (h : Fin 4) (g : Fin 8) (r s : Fin 4096) :
    scores (F := Ideal) v0 v2 v6 v8 (ix5 b h g r s)
      = (∑ e : Fin 128, (v2 (ix3 b s ⟨h.val * 128 + e.val, by omega⟩)
            * v0 (ix3 b r ⟨h.val * 1024 + g.val * 128 + e.val, by omega⟩) : EReal))
          * (v6 (ix1 ⟨h.val * 8 + g.val, by omega⟩) * v8 (ix1 h) * Ideal.ofBits .f32 0x3DB504F3#32) := by
  pointwise [scores]

/-- The row maximum of a score tensor, read at a row. -/
theorem rowMax_apply (v : FVec Ideal S8x4x8x4096x4096 .f32) (b : Fin 8) (h : Fin 4) (g : Fin 8) (r : Fin 4096) :
    rowMax (F := Ideal) v (ix4 b h g r) = SoftmaxRow.top fun s : Fin 4096 => v (ix5 b h g r s) := by
  pointwise [rowMax]
  rfl

/-- The row sum of a tensor, read at a row. -/
theorem rowSum_apply (v : FVec Ideal S8x4x8x4096x4096 .f32) (b : Fin 8) (h : Fin 4) (g : Fin 8) (r : Fin 4096) :
    rowSum (F := Ideal) v (ix4 b h g r) = (∑ s : Fin 4096, v (ix5 b h g r s) : EReal) := by
  pointwise [rowSum]

/-- The exponential of a score less its row's value, read at an index. -/
theorem exps_apply (v : FVec Ideal S8x4x8x4096x4096 .f32) (M : FVec Ideal S8x4x8x4096 .f32) (b : Fin 8) (h : Fin 4) (g : Fin 8)
    (r s : Fin 4096) :
    exps (F := Ideal) v M (ix5 b h g r s)
      = Ideal.exp (v (ix5 b h g r s) - max (Ideal.ofBits .f32 0xFF800000#32) (M (ix4 b h g r))) := by
  pointwise [exps]

/-- The guarded quotient, read at an index. -/
theorem guarded_apply (M L : FVec Ideal S8x4x8x4096 .f32) (e : FVec Ideal S8x4x8x4096x4096 .f32) (b : Fin 8) (h : Fin 4)
    (g : Fin 8) (r s : Fin 4096) :
    guarded (F := Ideal) M L e (ix5 b h g r s)
      = Scalar.select (IntOp.xori (FloatOps.weird (M (ix4 b h g r))) 1#1)
          (Ideal.div (e (ix5 b h g r s)) (L (ix4 b h g r))) (0 : EReal) := by
  pointwise [guarded]

/-- The weight of key row `s` for query row `r`: the guarded softmax entry of that row of scores. -/
theorem weights_apply (v : FVec Ideal S8x4x8x4096x4096 .f32) (b : Fin 8) (h : Fin 4) (g : Fin 8) (r s : Fin 4096) :
    weights (F := Ideal) v (ix5 b h g r s) = SoftmaxRow.weight (fun s' : Fin 4096 => v (ix5 b h g r s')) s := by
  unfold weights SoftmaxRow.weight
  rw [guarded_apply, rowSum_apply, rowMax_apply, exps_apply, rowMax_apply]
  simp only [exps_apply, rowMax_apply]

/-- The reference's result at an index, from the values, the value scales and the weights it is given. -/
theorem pay1_apply (a4 : Vec Ideal S8x4096x512 .fp8e4m3) (a5 : Vec Ideal S4 .f32) (w : FVec Ideal S8x4x8x4096x4096 .f32)
    (b : Fin 8) (r c : Fin 4096) :
    k0_pay1 (F := Ideal) (k0_pay2 a4) (k0_pay3 a5) w (ix3 b r c)
      = (∑ j : Fin 4096, (a4 (ix3 b j ⟨c.val / 1024 * 128 + c.val % 128, by omega⟩)
            * SoftmaxRow.clip (w (ix5 b ⟨c.val / 1024, by omega⟩ ⟨c.val / 128 % 8, by omega⟩ r j)
                * Ideal.ofBits .f32 0x43800000#32) : EReal))
          * (a5 (ix1 ⟨c.val / 1024, by omega⟩) * Ideal.ofBits .f32 0x3B800000#32) := by
  pointwise [k0_pay1, k0_pay2, k0_pay3]
  rfl

/-- THE REFERENCE AT AN INDEX: batch `b`, query row `r`, column `c`, which is lane `c % 128` of query head `c / 128 % 8` of
    key/value head `c / 1024`. -/
theorem reference_apply (a0 : Vec Ideal S8x4096x4096 .fp8e4m3) (a1 : Vec Ideal S32 .f32) (a2 : Vec Ideal S8x4096x512 .fp8e4m3)
    (a3 : Vec Ideal S4 .f32) (a4 : Vec Ideal S8x4096x512 .fp8e4m3) (a5 : Vec Ideal S4 .f32) (b : Fin 8) (r c : Fin 4096) :
    Value.G6 (F := Ideal) a0 a1 a2 a3 a4 a5 (ix3 b r c)
      = (∑ j : Fin 4096, SoftmaxRow.code
            (fun s : Fin 4096 => (∑ e : Fin 128, (a0 (ix3 b r ⟨c.val / 1024 * 1024 + c.val / 128 % 8 * 128 + e.val, by omega⟩)
                * a2 (ix3 b s ⟨c.val / 1024 * 128 + e.val, by omega⟩) : EReal))
              * (a1 (ix1 ⟨c.val / 1024 * 8 + c.val / 128 % 8, by omega⟩) * a3 (ix1 ⟨c.val / 1024, by omega⟩)
                * Ideal.ofBits .f32 0x3DB504F3#32)) j
            * a4 (ix3 b j ⟨c.val / 1024 * 128 + c.val % 128, by omega⟩))
          * (a5 (ix1 ⟨c.val / 1024, by omega⟩) * Ideal.ofBits .f32 0x3B800000#32) := by
  show k0_pay1 (F := Ideal) (k0_pay2 a4) (k0_pay3 a5) (k0_pay4 a0 a2 a1 a3) (ix3 b r c) = _
  rw [pay1_apply, pay4_eq]
  refine congrArg (fun x : EReal => x * _) (Finset.sum_congr rfl fun j _ => ?_)
  rw [weights_apply, mul_comm]
  refine congrArg (fun x : EReal => x * _) ((SoftmaxRow.codeGuarded_eq _ j).trans ?_)
  refine congrArg (fun t : Fin 4096 → EReal => SoftmaxRow.code t j) (funext fun s => ?_)
  rw [scores_apply]
  exact congrArg (fun x : EReal => x * _) (Finset.sum_congr rfl fun e _ => mul_comm _ _)

end Cert.ReferenceIdeal.Block

end
-- ==== Proof.KernelValue.lean ====
/-
  The kernel's result array. Every grid point stores its own block, the blocks tile the array, and what a point stores is its block
  of ONE function of the six arguments, the reference's (`Cert.ReferenceIdeal.Value.G6`): both, read at an index, are the same sum.
-/
module

public import proofs.«01_k».proof.Proof.KernelBlock
public import proofs.«01_k».proof.Proof.KernelPoints
public import proofs.«01_k».proof.Proof.RefScores
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's function of device `c`'s six argument arrays: what the result array is shown to hold. -/
abbrev result (c : Dev nD) : Buf (Elt Ideal) ((c : Thread nD τ).loc main_v0) :=
  Cert.ReferenceIdeal.Value.G6 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The query scale the body reads at point `t`: the scale of the point's query head. -/
theorem qs_eq (c : Dev nD) (t : Fin cfg0.N) (inb hn) :
    View.ld (iblk m c 0 t) (Rect.unit (s := S32) (k0_off1 (grid0.coords t)) ![1] inb) (Shape.Idx.first hn)
      = m ((c : Thread nD τ).loc main_arg1) (ix1 (⟨t.val / 128 % 4 * 8 + t.val / 16 % 8, by omega⟩ : Fin 32)) := by
  rw [View.ld_unit_apply_of _ _ _ _ _ (ix1 (⟨t.val / 128 % 4 * 8 + t.val / 16 % 8, by omega⟩ : Fin 32))]
  · blk_point [iblk, V, idx t]
  · intro a
    have h := congrFun (off1 t) a
    match a with
    | ⟨0, _⟩ => exact h.symm

/-- The key scale the body reads at point `t`: the scale of the point's key/value head. -/
theorem ks_eq (c : Dev nD) (t : Fin cfg0.N) (inb hn) :
    View.ld (iblk m c 1 t) (Rect.unit (s := S4) (k0_off2 (grid0.coords t)) ![1] inb) (Shape.Idx.first hn)
      = m ((c : Thread nD τ).loc main_arg3) (ix1 (⟨t.val / 128 % 4, by omega⟩ : Fin 4)) := by
  rw [View.ld_unit_apply_of _ _ _ _ _ (ix1 (⟨t.val / 128 % 4, by omega⟩ : Fin 4))]
  · blk_point [iblk, V, idx t]
  · intro a
    have h := congrFun (off2 t) a
    match a with
    | ⟨0, _⟩ => exact h.symm

/-- The value scale the body reads at point `t`: the scale of the point's key/value head. -/
theorem vs_eq (c : Dev nD) (t : Fin cfg0.N) (inb hn) :
    View.ld (iblk m c 2 t) (Rect.unit (s := S4) (k0_off2 (grid0.coords t)) ![1] inb) (Shape.Idx.first hn)
      = m ((c : Thread nD τ).loc main_arg5) (ix1 (⟨t.val / 128 % 4, by omega⟩ : Fin 4)) := by
  rw [View.ld_unit_apply_of _ _ _ _ _ (ix1 (⟨t.val / 128 % 4, by omega⟩ : Fin 4))]
  · blk_point [iblk, V, idx t]
  · intro a
    have h := congrFun (off2 t) a
    match a with
    | ⟨0, _⟩ => exact h.symm

/-- Where point `t` places row `r`, lane `d` of its block in the result array. -/
theorem emb_eq (t : Fin cfg0.N) (r : Fin 256) (d : Fin 128) :
    ((cfg0.win 6).blk t).view.emb (ix3 0 r d)
      = (ix3 (⟨t.val / 512, by have := lt_of_lt_of_eq t.isLt N_0; omega⟩ : Fin 8)
          (⟨t.val % 16 * 256 + r.val, by omega⟩ : Fin 4096)
          (⟨(t.val / 128 % 4 * 8 + t.val / 16 % 8) * 128 + d.val, by omega⟩ : Fin 4096) : S8x4096x4096.Idx) := by
  blk_ext [idx t]

/-- What the body leaves in the result's buffer at point `t`, read at row `r`, lane `d` of the block, is the reference's function at
    the array index the block places it at. -/
theorem point (c : Dev nD) (t : Fin cfg0.N) (y : S1x256x128.Idx) :
    outsAt0 m c t y = result m c (((cfg0.win 6).blk t).view.emb y) := by
  have ht : t.val < 4096 := lt_of_lt_of_eq t.isLt N_0
  idx_vars y
  obtain rfl : y0 = 0 := Subsingleton.elim _ _
  unfold outsAt0
  frame_out
  rw [qs_eq m c t, ks_eq m c t, vs_eq m c t]
  refine (payload_apply _ _ _ _ _ _ y1 y2).trans (Eq.trans ?_ (congrArg (result m c) (emb_eq t y1 y2)).symm)
  refine Eq.trans ?_ (Cert.ReferenceIdeal.Block.reference_apply _ _ _ _ _ _ _ _ _).symm
  blk_point [iblk, V, idx t]

/-- The result array after the run is the reference's function of the arguments. -/
theorem final (c : Dev nD) : (dats m 0 c).arrAt 6 cfg0.N = result m c := by
  refine (dats m 0 c).arrAt_eq_of_covers 6 _ covers fun t _ y => ?_
  blk_simp
  rw [after0_6]
  exact point m c t y

/-- The kernel's run, read: the result array at the reference's function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Block

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.SoftmaxRow
public import proofs.«01_k».proof.Proof.KernelBlock
public import proofs.«01_k».proof.Proof.KernelPoints
public import proofs.«01_k».proof.Proof.RefScores
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The kernel runs, leaves its arguments unchanged and every semaphore at zero. -/
theorem frame_kernel : Cert.quiescent_Kernel := fun m g _ => Cert.Kernel.Gen.frame m g

/-- So does its idealization. -/
theorem frame_kernelIdeal : Cert.quiescent_KernelIdeal := fun m g _ => Cert.KernelIdeal.Gen.frame m g

/-- So does the reference. -/
theorem frame_referenceIdeal : Cert.quiescent_ReferenceIdeal := fun m g _ => Cert.ReferenceIdeal.Gen.frame m g

/-- The kernel and the reference, from memories agreeing on the six arguments, end with the same result array: the kernel's run ends
    at the reference's function of its arguments (`KernelIdeal.Block.run`), the reference's run at the same function of its own. -/
theorem algebraic : Cert.algebraic_KernelIdeal_ReferenceIdeal := fun m g m' g' _ hagree =>
  ⟨fun c => Cert.KernelIdeal.Block.result m c, Cert.KernelIdeal.Block.run m g,
    (θ_run Cert.ReferenceIdeal.defs _ _).mono
      (fun _ h c => ⟨(h c).1.trans (by
          obtain ⟨h0, h1, h2, h3, h4, h5⟩ := hagree c
          show _ = Cert.KernelIdeal.Block.result m c
          unfold Cert.KernelIdeal.Block.result
          rw [h0, h1, h2, h3, h4, h5]), (h c).2⟩)
      (Cert.ReferenceIdeal.Value.run (F := Ideal) m' g')⟩

/-- The certificate's five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
